-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3072 : Shape := ⟨3, ![1, 256, 3072]⟩
abbrev S1x256x384 : Shape := ⟨3, ![1, 256, 384]⟩
abbrev S2 : Shape := ⟨1, ![2]⟩
abbrev S2x16384x3072 : Shape := ⟨3, ![2, 16384, 3072]⟩
abbrev S2x16384x384 : Shape := ⟨3, ![2, 16384, 384]⟩
abbrev S256x3072 : Shape := ⟨2, ![256, 3072]⟩
abbrev S256x384 : Shape := ⟨2, ![256, 384]⟩
abbrev S256x16384 : Shape := ⟨2, ![256, 16384]⟩
abbrev S2x256x3072 : Shape := ⟨3, ![2, 256, 3072]⟩
abbrev S2x256x384 : Shape := ⟨3, ![2, 256, 384]⟩
abbrev S256x256 : Shape := ⟨2, ![256, 256]⟩
abbrev S3072x256 : Shape := ⟨2, ![3072, 256]⟩
abbrev S256x128 : Shape := ⟨2, ![256, 128]⟩
abbrev S256x128x1 : Shape := ⟨3, ![256, 128, 1]⟩
abbrev S64x128 : Shape := ⟨2, ![64, 128]⟩
abbrev S1x256x128 : Shape := ⟨3, ![1, 256, 128]⟩
abbrev S1 : Shape := ⟨1, ![1]⟩
abbrev S128x256 : Shape := ⟨2, ![128, 256]⟩

abbrev nBuf : Space → Nat
  | .hbm => 9
  | .vmem => 10
  | .smem => 2
  | _ => 0

abbrev bufTy : (tb : Table) → Fin (tcTables nBuf tb) → BufTy
  | .hbm, ⟨0, _⟩ => ⟨S1x256x3072, .i8⟩
  | .hbm, ⟨1, _⟩ => ⟨S1x256x384, .fp8e4m3⟩
  | .hbm, ⟨2, _⟩ => ⟨S2, .f32⟩
  | .hbm, ⟨3, _⟩ => ⟨S2x16384x3072, .i8⟩
  | .hbm, ⟨4, _⟩ => ⟨S2x16384x384, .fp8e4m3⟩
  | .hbm, ⟨5, _⟩ => ⟨S2, .f32⟩
  | .hbm, ⟨6, _⟩ => ⟨S256x3072, .i8⟩
  | .hbm, ⟨7, _⟩ => ⟨S256x384, .fp8e4m3⟩
  | .hbm, ⟨8, _⟩ => ⟨S256x16384, .bf16⟩
  | .local _ .vmem, ⟨0, _⟩ => ⟨S256x3072, .i8⟩
  | .local _ .vmem, ⟨1, _⟩ => ⟨S256x384, .fp8e4m3⟩
  | .local _ .vmem, ⟨2, _⟩ => ⟨S2x256x3072, .i8⟩
  | .local _ .vmem, ⟨3, _⟩ => ⟨S2x256x3072, .i8⟩
  | .local _ .vmem, ⟨4, _⟩ => ⟨S2x256x384, .fp8e4m3⟩
  | .local _ .vmem, ⟨5, _⟩ => ⟨S2x256x384, .fp8e4m3⟩
  | .local _ .vmem, ⟨6, _⟩ => ⟨S256x256, .bf16⟩
  | .local _ .vmem, ⟨7, _⟩ => ⟨S256x256, .bf16⟩
  | .local _ .vmem, ⟨8, _⟩ => ⟨S3072x256, .bf16⟩
  | .local _ .vmem, ⟨9, _⟩ => ⟨S3072x256, .bf16⟩
  | .local _ .smem, ⟨0, _⟩ => ⟨S2, .f32⟩
  | .local _ .smem, ⟨1, _⟩ => ⟨S2, .f32⟩
  | _, _ => ⟨S1x256x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x3072 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x3072 : Shape := ⟨3, ![1, 256, 3072]⟩
abbrev S1x256x384 : Shape := ⟨3, ![1, 256, 384]⟩
abbrev S2 : Shape := ⟨1, ![2]⟩
abbrev S2x16384x3072 : Shape := ⟨3, ![2, 16384, 3072]⟩
abbrev S2x16384x384 : Shape := ⟨3, ![2, 16384, 384]⟩
abbrev S256x16384 : Shape := ⟨2, ![256, 16384]⟩
abbrev S1x256x384x1 : Shape := ⟨4, ![1, 256, 384, 1]⟩
abbrev S1x256x384x8 : Shape := ⟨4, ![1, 256, 384, 8]⟩
abbrev S2x16384x384x1 : Shape := ⟨4, ![2, 16384, 384, 1]⟩
abbrev S2x16384x384x8 : Shape := ⟨4, ![2, 16384, 384, 8]⟩
abbrev S1x256x2x16384 : Shape := ⟨4, ![1, 256, 2, 16384]⟩
abbrev S2x1 : Shape := ⟨2, ![2, 1]⟩
abbrev S2x128 : Shape := ⟨2, ![2, 128]⟩
abbrev S256 : Shape := ⟨1, ![256]⟩
abbrev S1x256x1 : Shape := ⟨3, ![1, 256, 1]⟩
abbrev S1x256x1x16384 : Shape := ⟨4, ![1, 256, 1, 16384]⟩
abbrev S1x256x16384 : Shape := ⟨3, ![1, 256, 16384]⟩
abbrev S1 : Shape := ⟨1, ![1]⟩

abbrev nBuf : Space → Nat
  | .hbm => 7
  | .vmem => 7
  | .smem => 0
  | _ => 0

abbrev bufTy : (tb : Table) → Fin (tcTables nBuf tb) → BufTy
  | .hbm, ⟨0, _⟩ => ⟨S1x256x3072, .i8⟩
  | .hbm, ⟨1, _⟩ => ⟨S1x256x384, .fp8e4m3⟩
  | .hbm, ⟨2, _⟩ => ⟨S2, .f32⟩
  | .hbm, ⟨3, _⟩ => ⟨S2x16384x3072, .i8⟩
  | .hbm, ⟨4, _⟩ => ⟨S2x16384x384, .fp8e4m3⟩
  | .hbm, ⟨5, _⟩ => ⟨S2, .f32⟩
  | .hbm, ⟨6, _⟩ => ⟨S256x16384, .bf16⟩
  | .local _ .vmem, ⟨0, _⟩ => ⟨S1x256x3072, .i8⟩
  | .local _ .vmem, ⟨1, _⟩ => ⟨S1x256x384, .fp8e4m3⟩
  | .local _ .vmem, ⟨2, _⟩ => ⟨S2, .f32⟩
  | .local _ .vmem, ⟨3, _⟩ => ⟨S2x16384x3072, .i8⟩
  | .local _ .vmem, ⟨4, _⟩ => ⟨S2x16384x384, .fp8e4m3⟩
  | .local _ .vmem, ⟨5, _⟩ => ⟨S2, .f32⟩
  | .local _ .vmem, ⟨6, _⟩ => ⟨S256x16384, .bf16⟩
  | _, _ => ⟨S1x256x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Bits.lean ====
/- Packed four-bit codes at the level of bits: four bytes shifted and masked as one 32-bit word are four bytes shifted and masked
   one by one, and what the resulting `e4m3` patterns denote. -/
module

public import Idealize.ShloMosaic.Lib.BitcastFour
public import Idealize.ShloMosaic.Lib.Tactic
public import Idealize.ShloMosaic.PureOps.Ideal

@[expose] public section

set_option maxRecDepth 16384

noncomputable section

namespace Cert.Nvfp4

open Idealize.ShloMosaic

/-- The `e4m3` pattern the kernel makes of a byte's low nibble: the sign to bit 7, the other three bits to bits 2, 3 and 4. -/
def loByte (b : BitVec 8) : BitVec 8 := ((b <<< 4) &&& 0x80#8) ||| ((b <<< 2) &&& 0x1C#8)

/-- The `e4m3` pattern the kernel makes of a byte's high nibble. -/
def hiByte (b : BitVec 8) : BitVec 8 := (b &&& 0x80#8) ||| ((b >>> 2) &&& 0x1C#8)

/-- The kernel's word form of `loByte`: four bytes at once. -/
def loWord (w : BitVec 32) : BitVec 32 :=
  IntOp.ori (IntOp.andi (IntOp.shli .vector w 4#32) 2155905152#32) (IntOp.andi (IntOp.shli .vector w 2#32) 471604252#32)

/-- The kernel's word form of `hiByte`: four bytes at once. -/
def hiWord (w : BitVec 32) : BitVec 32 :=
  IntOp.ori (IntOp.andi w 2155905152#32) (IntOp.andi (IntOp.shrui .vector w 2#32) 471604252#32)

/-- Byte `k` of the word form is the byte form of byte `k`. -/
theorem loWord_byte (w : BitVec 32) (k : Fin 4) : (loWord w).extractLsb' (8 * k.val) 8 = loByte (w.extractLsb' (8 * k.val) 8) := by
  apply BitVec.eq_of_getLsbD_eq
  intro q hq
  obtain ⟨k, hk⟩ := k
  have h1 : IntOp.shli .vector w 4#32 = w <<< 4 := rfl
  have h2 : IntOp.shli .vector w 2#32 = w <<< 2 := rfl
  simp only [loWord, loByte, h1, h2, IntOp.ori, IntOp.andi, BitVec.getLsbD_extractLsb', BitVec.getLsbD_or, BitVec.getLsbD_and,
    BitVec.getLsbD_shiftLeft]
  interval_cases k <;> interval_cases q <;> simp

/-- Byte `k` of the word form is the byte form of byte `k`. -/
theorem hiWord_byte (w : BitVec 32) (k : Fin 4) : (hiWord w).extractLsb' (8 * k.val) 8 = hiByte (w.extractLsb' (8 * k.val) 8) := by
  apply BitVec.eq_of_getLsbD_eq
  intro q hq
  obtain ⟨k, hk⟩ := k
  have h1 : IntOp.shrui .vector w 2#32 = w >>> 2 := rfl
  simp only [hiWord, hiByte, h1, IntOp.ori, IntOp.andi, BitVec.getLsbD_extractLsb', BitVec.getLsbD_or, BitVec.getLsbD_and,
    BitVec.getLsbD_ushiftRight]
  interval_cases k <;> interval_cases q <;> simp

section Words
variable {R r n : Nat}

/-- Words read at 8 bits: row `p` is byte `p % 4` of word row `p / 4`. -/
theorem bitcast_32_8_ix2 (y : (⟨2, ![r, n]⟩ : Shape).Idx → BitVec 32) (h : (⟨2, ![r, n]⟩ : Shape).Bitcasts 32 ⟨2, ![R, n]⟩ 8)
    (p : Fin R) (l : Fin n) (a : Fin r) (ha : a.val = p.val / 4) :
    bitcast ⟨2, ![R, n]⟩ 8 y h (ValueIdx.ix2 p l) = (y (ValueIdx.ix2 a l)).extractLsb' (8 * (p.val % 4)) 8 := by
  apply BitVec.eq_of_getLsbD_eq
  intro q hq
  rw [bitcast_getLsbD y h _ q hq (by decide), BitVec.getLsbD_extractLsb']
  have hrow : (⟨2, ![R, n]⟩ : Shape).row (ValueIdx.ix2 p l) = p.val := rfl
  have e1 : ((⟨2, ![R, n]⟩ : Shape).row (ValueIdx.ix2 p l) * 8 + q) / 32 = a.val := by rw [hrow]; omega
  have e2 : ((⟨2, ![R, n]⟩ : Shape).row (ValueIdx.ix2 p l) * 8 + q) % 32 = 8 * (p.val % 4) + q := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: byte `k` of word row `a` is row `4 a + k`. -/
theorem bitcast_8_32_byte (x : (⟨2, ![R, n]⟩ : Shape).Idx → BitVec 8) (h : (⟨2, ![R, n]⟩ : Shape).Bitcasts 8 ⟨2, ![r, n]⟩ 32)
    (a : Fin r) (l : Fin n) (p : Fin R) (k : Nat) (hk : k < 4) (hp : p.val = 4 * a.val + k) :
    (bitcast ⟨2, ![r, n]⟩ 32 x h (ValueIdx.ix2 a l)).extractLsb' (8 * k) 8 = x (ValueIdx.ix2 p l) := by
  apply BitVec.eq_of_getLsbD_eq
  intro q hq
  rw [BitVec.getLsbD_extractLsb', bitcast_8_32_getLsbD_ix2 x h a l (8 * k + q) (by omega) p (by omega)]
  rw [show (8 * k + q) % 8 = q by omega]
  simp [hq]

/-- A function of words that acts byte by byte, applied between the two readings, is the byte function applied elementwise. -/
theorem bytewise (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (f : BitVec 32 → BitVec 32) (g : BitVec 8 → BitVec 8)
    (hfg : ∀ (w : BitVec 32) (k : Fin 4), (f w).extractLsb' (8 * k.val) 8 = g (w.extractLsb' (8 * k.val) 8))
    (hr : R = 4 * r) (p : Fin R) (l : Fin n) :
    bitcast ⟨2, ![R, n]⟩ 8 (fun j => f (bitcast ⟨2, ![r, n]⟩ 32 x h j)) h' (ValueIdx.ix2 p l) = g (x (ValueIdx.ix2 p l)) := by
  have hp := p.isLt
  have hpr : p.val / 4 < r := by omega
  have hk : p.val % 4 < 4 := Nat.mod_lt _ (by decide)
  rw [bitcast_32_8_ix2 _ h' p l ⟨p.val / 4, hpr⟩ rfl]
  rw [hfg _ ⟨p.val % 4, hk⟩, bitcast_8_32_byte x h ⟨p.val / 4, hpr⟩ l p (p.val % 4) hk (by show p.val = 4 * (p.val / 4) + p.val % 4; omega)]

end Words

/-! ## What the patterns denote -/

/-- The magnitude a nibble's low three bits name, written as the reference's selects. -/
def mag (v : BitVec 32) : EReal :=
  Scalar.select (IntOp.cmpi .ne (IntOp.andi v 4#32) 0#32)
    (Scalar.select (IntOp.cmpi .ne (IntOp.andi v 2#32) 0#32)
      (Scalar.select (IntOp.cmpi .ne (IntOp.andi v 1#32) 0#32) (Ideal.ofBits .bf16 0x40C0#16) (Ideal.ofBits .bf16 0x4080#16))
      (Scalar.select (IntOp.cmpi .ne (IntOp.andi v 1#32) 0#32) (Ideal.ofBits .bf16 0x4040#16) (Ideal.ofBits .bf16 0x4000#16)))
    (Scalar.select (IntOp.cmpi .ne (IntOp.andi v 2#32) 0#32)
      (Scalar.select (IntOp.cmpi .ne (IntOp.andi v 1#32) 0#32) (Ideal.ofBits .bf16 0x3FC0#16) (Ideal.ofBits .bf16 0x3F80#16))
      (Scalar.select (IntOp.cmpi .ne (IntOp.andi v 1#32) 0#32) (Ideal.ofBits .bf16 0x3F00#16) (Ideal.ofBits .bf16 0x0000#16)))

/-- The value a nibble names: bit 3 is the sign. -/
def dec (v : BitVec 32) : EReal :=
  Scalar.select (IntOp.cmpi .ne (IntOp.andi v 8#32) 0#32) (Ideal.ofBits .bf16 0x0000#16 - mag v) (mag v)

/-- The pattern of a nibble, sign included, as the word it is selected from. -/
theorem loByte_nibble : ∀ b : BitVec 8, loByte b = loByte (b &&& 15#8) := by decide +kernel

/-- The high nibble's pattern is the low nibble's of the byte shifted down. -/
theorem hiByte_nibble : ∀ b : BitVec 8, hiByte b = loByte (b >>> 4) := by decide +kernel

/-- A nibble's `e4m3` pattern denotes the nibble's value over 64. -/
theorem dec_nibble : ∀ n : Fin 16, Ideal.ofBits .fp8e4m3 (loByte (BitVec.ofNat 8 n.val)) = dec (BitVec.ofNat 32 n.val) * ((1 / 64 : ℝ) : EReal) := by
  intro n
  fin_cases n <;>
    simp [Ideal.ofBits, Ideal.e4m3fn, Ideal.ieee, loByte, dec, mag, Scalar.select, IntOp.cmpi, IntOp.andi] <;> norm_cast <;> norm_num

/-- The low nibble of any byte: its pattern denotes the reference's value over 64. -/
theorem dec_lo (b : BitVec 8) :
    Ideal.ofBits .fp8e4m3 (loByte b) = dec (IntOp.andi (b.setWidth 32) 15#32) * ((1 / 64 : ℝ) : EReal) := by
  have h1 : b &&& 15#8 = BitVec.ofNat 8 (b &&& 15#8).toNat := by simp
  have h2 : IntOp.andi (b.setWidth 32) 15#32 = BitVec.ofNat 32 (b &&& 15#8).toNat :=
    (by decide +kernel : ∀ b : BitVec 8, IntOp.andi (b.setWidth 32) 15#32 = BitVec.ofNat 32 (b &&& 15#8).toNat) b
  have h3 : (b &&& 15#8).toNat < 16 := (by decide +kernel : ∀ b : BitVec 8, (b &&& 15#8).toNat < 16) b
  rw [loByte_nibble, h1, h2]
  exact dec_nibble ⟨_, h3⟩

/-- The high nibble of any byte: its pattern denotes the reference's value over 64. -/
theorem dec_hi (b : BitVec 8) :
    Ideal.ofBits .fp8e4m3 (hiByte b) = dec (IntOp.shrsi .vector (b.setWidth 32) 4#32) * ((1 / 64 : ℝ) : EReal) := by
  have h1 : b >>> 4 = BitVec.ofNat 8 (b >>> 4).toNat :=
    (by decide +kernel : ∀ b : BitVec 8, b >>> 4 = BitVec.ofNat 8 (b >>> 4).toNat) b
  have h2 : IntOp.shrsi .vector (b.setWidth 32) 4#32 = BitVec.ofNat 32 (b >>> 4).toNat :=
    (by decide +kernel : ∀ b : BitVec 8, IntOp.shrsi .vector (b.setWidth 32) 4#32 = BitVec.ofNat 32 (b >>> 4).toNat) b
  have h3 : (b >>> 4).toNat < 16 := (by decide +kernel : ∀ b : BitVec 8, (b >>> 4).toNat < 16) b
  rw [hiByte_nibble, h1, h2]
  exact dec_nibble ⟨_, h3⟩

end Cert.Nvfp4
-- ==== Proof.Spec.lean ====
/- The function both programs compute, at an entry: the decoded codes' products, the scales, the gate. -/
module

public import proofs.«01_k».proof.Proof.Bits
public import Idealize.ShloMosaic.Lib.Pointwise

@[expose] public section

noncomputable section

namespace Cert.Nvfp4

open Idealize.ShloMosaic

/-- The value of the low nibble of a byte. -/
def lo (b : BitVec 8) : EReal := dec (IntOp.andi (b.setWidth 32) 15#32)

/-- The value of the high nibble of a byte. -/
def hi (b : BitVec 8) : EReal := dec (IntOp.shrsi .vector (b.setWidth 32) 4#32)

/-- The product of token row `q` with row `n` of matrix `g`: low nibbles with low, high with high, each byte column `k` scaled on both
    sides by the scale of its block of eight bytes. -/
def dotAt (xc : Vec Ideal ⟨3, ![1, 256, 3072]⟩ .i8) (xs : Vec Ideal ⟨3, ![1, 256, 384]⟩ .fp8e4m3)
    (wc : Vec Ideal ⟨3, ![2, 16384, 3072]⟩ .i8) (ws : Vec Ideal ⟨3, ![2, 16384, 384]⟩ .fp8e4m3)
    (g : Fin 2) (q : Fin 256) (n : Fin 16384) : EReal :=
  (∑ k : Fin 3072, (lo (xc (ix3 0 q k)) * xs (ix3 0 q ⟨k.val / 8, by omega⟩)) * (lo (wc (ix3 g n k)) * ws (ix3 g n ⟨k.val / 8, by omega⟩)))
  + ∑ k : Fin 3072, (hi (xc (ix3 0 q k)) * xs (ix3 0 q ⟨k.val / 8, by omega⟩)) * (hi (wc (ix3 g n k)) * ws (ix3 g n ⟨k.val / 8, by omega⟩))

/-- The gated product of a gate value and an up value. -/
def gated (h u : EReal) : EReal := (h * Ideal.logistic h) * u

/-- The result at token `q`, column `n`: both products scaled by the token's half's scalar and the matrix's scalar, then gated. -/
def resultAt (xc : Vec Ideal ⟨3, ![1, 256, 3072]⟩ .i8) (xs : Vec Ideal ⟨3, ![1, 256, 384]⟩ .fp8e4m3) (xg : Vec Ideal ⟨1, ![2]⟩ .f32)
    (wc : Vec Ideal ⟨3, ![2, 16384, 3072]⟩ .i8) (ws : Vec Ideal ⟨3, ![2, 16384, 384]⟩ .fp8e4m3) (wg : Vec Ideal ⟨1, ![2]⟩ .f32)
    (q : Fin 256) (n : Fin 16384) : EReal :=
  gated ((dotAt xc xs wc ws 0 q n * xg (ix1 ⟨q.val / 128, by omega⟩)) * wg (ix1 0))
    ((dotAt xc xs wc ws 1 q n * xg (ix1 ⟨q.val / 128, by omega⟩)) * wg (ix1 1))

end Cert.Nvfp4
-- ==== Proof.RefValue.lean ====
/- What the reference computes, at an entry. -/
module

public import proofs.«01_k».proof.Proof.Spec
public import proofs.«01_k».proof.Proof.Gen.ReferenceIdeal.Value

@[expose] public section

set_option maxRecDepth 65536

noncomputable section

namespace Cert.ReferenceIdeal.Nv

open Idealize.ShloMosaic Idealize.ShloMosaic.TcCoe Idealize.ShloMosaic.Tactic Cert.ReferenceIdeal.Gen Cert.ReferenceIdeal Cert.Nvfp4

/-- The reference's result at token `q`, column `n`. -/
theorem G6_apply (a0 : Vec Ideal S1x256x3072 .i8) (a1 : Vec Ideal S1x256x384 .fp8e4m3) (a2 : Vec Ideal S2 .f32)
    (a3 : Vec Ideal S2x16384x3072 .i8) (a4 : Vec Ideal S2x16384x384 .fp8e4m3) (a5 : Vec Ideal S2 .f32) (q : Fin 256) (n : Fin 16384) :
    Value.G6 a0 a1 a2 a3 a4 a5 (ix2 q n) = resultAt a0 a1 a2 a3 a4 a5 q n := by
  pointwise [Value.G6, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, resultAt, gated, dotAt, lo, hi, dec, mag]

end Cert.ReferenceIdeal.Nv
-- ==== Proof.Tiles.lean ====
/- The kernel's decoded operands, as one function per kind of tile: what a point's run computes, each of the 24 tiles of a
   block written once as a function of the tile's number. -/
module

public import proofs.«01_k».proof.Proof.Gen.KernelIdeal.Value
public import Idealize.ShloMosaic.Lib.Pipeline.ValueKit

@[expose] public section

set_option maxRecDepth 16384

noncomputable section

namespace Cert.KernelIdeal.Nv

open Idealize.ShloMosaic Idealize.ShloMosaic.TcCoe Idealize.ShloMosaic.Tactic Cert.KernelIdeal.Gen Cert.KernelIdeal

variable {F : FTy → Type} [FloatOps F]

/-- The lane a tile's scale is taken from: `lane / 8 + o`. -/
def scaleIdx (o : BitVec 32) : IVec S256x128 32 :=
  have v6 : IVec S256x128 32 := iota .tc S256x128 32 [1] iota_S256x128_d1_w32
  have v7 : IVec S256x128 32 := broadcast S256x128 8#32
  have v8 : IVec S256x128 32 := divsi v6 v7
  have v9 : IVec S256x128 32 := broadcast S256x128 0#32
  have v10 : IVec S256x128 1 := cmpi .sgt v6 v9
  have v11 : IVec S256x128 32 := extui 32 v10 natLt_1_32
  have v12 : IVec S256x128 32 := broadcast S256x128 0#32
  have v13 : IVec S256x128 1 := cmpi .slt v6 v12
  have v14 : IVec S256x128 32 := extui 32 v13 natLt_1_32
  have v15 : IVec S256x128 32 := subi v11 v14
  let v16 : BitVec 1 := Scalar.cmpi .sgt 8#32 0#32
  let v17 : BitVec 32 := Scalar.extui v16
  let v18 : BitVec 1 := Scalar.cmpi .slt 8#32 0#32
  let v19 : BitVec 32 := Scalar.extui v18
  let v20 : BitVec 32 := Scalar.subi v17 v19
  have v21 : IVec S256x128 32 := broadcast S256x128 v20
  have v22 : IVec S256x128 1 := cmpi .ne v15 v21
  have v23 : IVec S256x128 32 := broadcast S256x128 8#32
  have v24 : IVec S256x128 32 := remsi v6 v23
  have v25 : IVec S256x128 32 := broadcast S256x128 0#32
  have v26 : IVec S256x128 1 := cmpi .ne v24 v25
  have v27 : IVec S256x128 1 := andi v22 v26
  have v28 : IVec S256x128 32 := broadcast S256x128 1#32
  have v29 : IVec S256x128 32 := subi v8 v28
  have v30 : IVec S256x128 32 := select v27 v29 v8
  have v31 : IVec S256x128 32 := broadcast S256x128 o
  have v32 : IVec S256x128 32 := addi v30 v31
  have v33 : IVec S256x128 32 := broadcast S256x128 0#32
  have v34 : IVec S256x128 1 := cmpi .slt v32 v33
  have v35 : IVec S256x128 32 := broadcast S256x128 128#32
  have v36 : IVec S256x128 32 := addi v32 v35
  have v37 : IVec S256x128 32 := select v34 v36 v32
  have v38 : IVec S256x128x1 32 := shapeCast S256x128x1 v37 shapeCasts_S256x128_S256x128x1
  shapeCast S256x128 v38 shapeCasts_S256x128x1_S256x128

/-- A tile's scales, one per code: the block's scales gathered along the lanes. -/
def scaleTile (o : BitVec 32) (s : FVec F S256x128 .fp8e4m3) : FVec F S256x128 .bf16 :=
  truncf .bf16 (dynamicGather 1 (extf .f32 s bitsLt_fp8e4m3_f32) (scaleIdx o)) bitsLt_bf16_f32

/-- A tile's low codes, decoded and scaled. -/
def loTile (b : IVec S256x128 8) (sc : FVec F S256x128 .bf16) : FVec F S256x128 .bf16 :=
  have w : IVec S64x128 32 := bitcast S64x128 32 b bitcasts_S256x128_w8_S64x128_w32
  mulf (extf .bf16 (bitcastToFloat .fp8e4m3 (bitcast S256x128 8
    (ori (andi (shli w (broadcast S64x128 4#32)) (broadcast S64x128 2155905152#32))
      (andi (shli w (broadcast S64x128 2#32)) (broadcast S64x128 471604252#32)))
    bitcasts_S64x128_w32_S256x128_w8)) bitsLt_fp8e4m3_bf16) sc

/-- A tile's high codes, decoded and scaled. -/
def hiTile (b : IVec S256x128 8) (sc : FVec F S256x128 .bf16) : FVec F S256x128 .bf16 :=
  have w : IVec S64x128 32 := bitcast S64x128 32 b bitcasts_S256x128_w8_S64x128_w32
  mulf (extf .bf16 (bitcastToFloat .fp8e4m3 (bitcast S256x128 8
    (ori (andi w (broadcast S64x128 2155905152#32))
      (andi (shrui w (broadcast S64x128 2#32)) (broadcast S64x128 471604252#32)))
    bitcasts_S64x128_w32_S256x128_w8)) bitsLt_fp8e4m3_bf16) sc

/-- Tile `j` of product `g`'s packed codes. -/
def wCodes (g : Fin 2) (x : Vec F S2x256x3072 .i8) (j : Fin 24) : IVec S256x128 8 :=
  shapeCast S256x128 (View.ld x (Rect.unit (s := S2x256x3072) ![g.val, 0, 128 * j.val] S1x256x128.size
    (by decide +revert)) : Vec F S1x256x128 .i8) shapeCasts_S1x256x128_S256x128

/-- The 128 scale columns of product `g` that tile `j` reads from. -/
def wScales (g : Fin 2) (x : Vec F S2x256x384 .fp8e4m3) (j : Fin 24) : FVec F S256x128 .fp8e4m3 :=
  shapeCast S256x128 (View.ld x (Rect.unit (s := S2x256x384) ![g.val, 0, 128 * (j.val / 8)] S1x256x128.size
    (by decide +revert)) : Vec F S1x256x128 .fp8e4m3) shapeCasts_S1x256x128_S256x128

/-- Tile `j` of the activations' packed codes. -/
def xCodes (x : Vec F S256x3072 .i8) (j : Fin 24) : IVec S256x128 8 :=
  shapeCast S256x128 (View.ld x (Rect.unit (s := S256x3072) ![0, 128 * j.val] S256x128.size
    (by decide +revert)) : Vec F S256x128 .i8) shapeCasts_S256x128_S256x128

/-- The 128 scale columns that tile `j` of the activations reads from. -/
def xScales (x : Vec F S256x384 .fp8e4m3) (j : Fin 24) : FVec F S256x128 .fp8e4m3 :=
  shapeCast S256x128 (View.ld x (Rect.unit (s := S256x384) ![0, 128 * (j.val / 8)] S256x128.size
    (by decide +revert)) : Vec F S256x128 .fp8e4m3) shapeCasts_S256x128_S256x128

/-- The offset of tile `j`'s scales among the 128 it reads from. -/
def off (j : Fin 24) : BitVec 32 := BitVec.ofNat 32 (16 * (j.val % 8))

/-- 24 tiles side by side. -/
def tiles (f : Fin 24 → FVec F S256x128 .bf16) : FVec F S256x3072 .bf16 :=
  concatenate S256x3072 1 (List.ofFn fun j : Fin 24 => (⟨S256x128, f j⟩ : (s : Shape) × (s.Idx → F .bf16)))
    (show Shape.Concatenates [S256x128, S256x128, S256x128, S256x128, S256x128, S256x128, S256x128, S256x128, S256x128, S256x128, S256x128, S256x128, S256x128, S256x128, S256x128, S256x128, S256x128, S256x128, S256x128, S256x128, S256x128, S256x128, S256x128, S256x128] S256x3072 1 by decide)

/-- Product `g`'s low operand rows. -/
def wLo (g : Fin 2) (x4 : Vec F S2x256x3072 .i8) (x5 : Vec F S2x256x384 .fp8e4m3) : FVec F S256x3072 .bf16 :=
  tiles fun j => loTile (wCodes g x4 j) (scaleTile (off j) (wScales g x5 j))

/-- Product `g`'s high operand rows. -/
def wHi (g : Fin 2) (x4 : Vec F S2x256x3072 .i8) (x5 : Vec F S2x256x384 .fp8e4m3) : FVec F S256x3072 .bf16 :=
  tiles fun j => hiTile (wCodes g x4 j) (scaleTile (off j) (wScales g x5 j))

/-- The activations' scales carry the factor 4096. -/
def gain (s : FVec F S256x128 .bf16) : FVec F S256x128 .bf16 :=
  mulf s (broadcast S256x128 (Scalar.ofBits .bf16 0x4580#16))

/-- The activations' low operand, transposed. -/
def xLo (x2 : Vec F S256x3072 .i8) (x3 : Vec F S256x384 .fp8e4m3) : FVec F S3072x256 .bf16 :=
  shapeCast S3072x256 (transpose S3072x256 [1, 0] (tiles fun j => loTile (xCodes x2 j) (gain (scaleTile (off j) (xScales x3 j))))
    transposes_S256x3072_p1_0_S3072x256) shapeCasts_S3072x256_S3072x256

/-- The activations' high operand, transposed. -/
def xHi (x2 : Vec F S256x3072 .i8) (x3 : Vec F S256x384 .fp8e4m3) : FVec F S3072x256 .bf16 :=
  shapeCast S3072x256 (transpose S3072x256 [1, 0] (tiles fun j => hiTile (xCodes x2 j) (gain (scaleTile (off j) (xScales x3 j))))
    transposes_S256x3072_p1_0_S3072x256) shapeCasts_S3072x256_S3072x256

/-- One of the two products of a point: low codes with low codes, high with high. -/
def acc (g : Fin 2) (x4 : Vec F S2x256x3072 .i8) (x5 : Vec F S2x256x384 .fp8e4m3) (s0 s1 : FVec F S3072x256 .bf16) : FVec F S256x256 .f32 :=
  addf (matmul dot_S256x3072_S3072x256_S256x256_1_0_0_1_n_n none (wLo g x4 x5) s0 (constant S256x256 .f32 0x00000000#32))
    (matmul dot_S256x3072_S3072x256_S256x256_1_0_0_1_n_n none (wHi g x4 x5) s1 (constant S256x256 .f32 0x00000000#32))

/-- What is stored for 128 tokens: the gate's and the up product's slices, scaled, and the gated product, transposed. -/
def half (h u : FVec F S256x128 .f32) (a b c d : F .f32) : FVec F S128x256 .bf16 :=
  have v3095 : FVec F S256x128 .f32 := mulf (mulf h (broadcast S256x128 a)) (broadcast S256x128 b)
  have v3102 : FVec F S256x128 .f32 := mulf (mulf u (broadcast S256x128 c)) (broadcast S256x128 d)
  truncf .bf16 (transpose S128x256 [1, 0] (mulf (mulf v3095 (logistic v3095)) v3102) transposes_S256x128_p1_0_S128x256) bitsLt_bf16_f32

/-- The scalar at place `i` of a pair. -/
def pair (x : Vec F S2 .f32) (i : Fin 2) : F .f32 :=
  View.ld x (Rect.unit (s := S2) ![i.val] S1.size (by decide +revert)) (Shape.Idx.first (s := S1) (by decide))

/-- What a point leaves in its block of the result: tokens 0 to 127 with the first scalar, 128 to 255 with the second. -/
def block (x0 x1 : Vec F S2 .f32) (x4 : Vec F S2x256x3072 .i8) (x5 : Vec F S2x256x384 .fp8e4m3) (s0 s1 : FVec F S3072x256 .bf16) :
    Vec F S256x256 .bf16 :=
  View.canon (Val := Elt F) (e := .bf16)
    [⟨Rect.unit (s := S256x256) ![128, 0] S128x256.size inb_S256x256_S128x256_128_0,
      half (extractStridedSlice S256x128 ![0, 128] (acc 0 x4 x5 s0 s1) slices_S256x256_o0_128_S256x128)
        (extractStridedSlice S256x128 ![0, 128] (acc 1 x4 x5 s0 s1) slices_S256x256_o0_128_S256x128)
        (pair x0 1) (pair x1 0) (pair x0 1) (pair x1 1)⟩,
     ⟨Rect.unit (s := S256x256) ![0, 0] S128x256.size inb_S256x256_S128x256_0_0,
      half (extractStridedSlice S256x128 ![0, 0] (acc 0 x4 x5 s0 s1) slices_S256x256_o0_0_S256x128)
        (extractStridedSlice S256x128 ![0, 0] (acc 1 x4 x5 s0 s1) slices_S256x256_o0_0_S256x128)
        (pair x0 0) (pair x1 0) (pair x0 0) (pair x1 1)⟩]

end Cert.KernelIdeal.Nv
-- ==== Proof.Points.lean ====
/- What each grid point leaves: the first decodes the activations into the two carried operands, every point multiplies. -/
module

public import proofs.«01_k».proof.Proof.Tiles
public import Idealize.ShloMosaic.Lib.Pipeline.ReadBack

@[expose] public section

set_option maxRecDepth 65536

noncomputable section

namespace Cert.KernelIdeal.Nv

open Idealize.ShloMosaic Idealize.ShloMosaic.TcCoe Idealize.ShloMosaic.Tactic Cert.KernelIdeal.Gen Cert.KernelIdeal
open Idealize.ShloMosaic.Pipeline (Dat Cfg Window)

variable {F : FTy → Type} [FloatOps F]
variable (m : (ℓ : Loc nD τ sig) → Buf (Elt F) ℓ)

set_option maxHeartbeats 2000000 in
/-- What a later point leaves in its block, over the contents of the two carried operands. -/
theorem out_B (c : Dev nD) (t : Fin cfg0.N) (h0 : ¬ t.val % 64 = 0) : (outsAt0 m c t.val t.isLt).1
    = block (iblk m c 0 t) (iblk m c 1 t) (iblk m c 4 t) (iblk m c 5 t) (outsAt0 m c (t.val - 1) (by omega)).2.1 (outsAt0 m c (t.val - 1) (by omega)).2.2 := by
  rw [outsAt0_B m c t h0]
  frame_out
  simp only [read_unread_whole]
  sl_kernel_rfl

set_option maxHeartbeats 2000000 in
/-- What the first point leaves in the first carried operand. -/
theorem lo_A (c : Dev nD) (t : Fin cfg0.N) (h0 : t.val % 64 = 0) : (outsAt0 m c t.val t.isLt).2.1 = xLo (iblk m c 2 t) (iblk m c 3 t) := by
  rw [outsAt0_A m c t h0]
  frame_out
  rw [(hs0_2 t).read_unread, (hs0_3 t).read_unread]
  sl_kernel_rfl

set_option maxHeartbeats 2000000 in
/-- What the first point leaves in the second carried operand. -/
theorem hi_A (c : Dev nD) (t : Fin cfg0.N) (h0 : t.val % 64 = 0) : (outsAt0 m c t.val t.isLt).2.2 = xHi (iblk m c 2 t) (iblk m c 3 t) := by
  rw [outsAt0_A m c t h0]
  frame_out
  rw [(hs0_2 t).read_unread, (hs0_3 t).read_unread]
  sl_kernel_rfl

set_option maxHeartbeats 2000000 in
/-- What the first point leaves in its block. -/
theorem out_A (c : Dev nD) (t : Fin cfg0.N) (h0 : t.val % 64 = 0) : (outsAt0 m c t.val t.isLt).1
    = block (iblk m c 0 t) (iblk m c 1 t) (iblk m c 4 t) (iblk m c 5 t) (xLo (iblk m c 2 t) (iblk m c 3 t)) (xHi (iblk m c 2 t) (iblk m c 3 t)) := by
  rw [outsAt0_A m c t h0]
  frame_out
  rw [(hs0_2 t).read_unread, (hs0_3 t).read_unread]
  sl_kernel_rfl

/-- A later point leaves the carried operands as it found them. -/
theorem carry_B (c : Dev nD) (t : Fin cfg0.N) (h0 : ¬ t.val % 64 = 0) : (outsAt0 m c t.val t.isLt).2 = (outsAt0 m c (t.val - 1) (by omega)).2 := by
  rw [outsAt0_B m c t h0]
  rfl

/-- The carried operands after any point are the activations decoded at point 0. -/
theorem carried (c : Dev nD) : ∀ (n : ℕ) (h : n < cfg0.N), (outsAt0 m c n h).2
    = (xLo (iblk m c 2 ⟨0, by decide⟩) (iblk m c 3 ⟨0, by decide⟩), xHi (iblk m c 2 ⟨0, by decide⟩) (iblk m c 3 ⟨0, by decide⟩))
  | 0, h => Prod.ext (lo_A m c ⟨0, h⟩ rfl) (hi_A m c ⟨0, h⟩ rfl)
  | n + 1, h => by
    have hN : n + 1 < 64 := lt_of_lt_of_eq h N_0
    exact (carry_B m c ⟨n + 1, h⟩ (by show ¬ (n + 1) % 64 = 0; omega)).trans (carried c n (by omega))

/-- What any point leaves in its block. -/
theorem out_eq (c : Dev nD) (t : Fin cfg0.N) : (outsAt0 m c t.val t.isLt).1
    = block (iblk m c 0 t) (iblk m c 1 t) (iblk m c 4 t) (iblk m c 5 t)
      (xLo (iblk m c 2 ⟨0, by decide⟩) (iblk m c 3 ⟨0, by decide⟩)) (xHi (iblk m c 2 ⟨0, by decide⟩) (iblk m c 3 ⟨0, by decide⟩)) := by
  have hN : t.val < 64 := lt_of_lt_of_eq t.isLt N_0
  by_cases h0 : t.val % 64 = 0
  · obtain rfl : t = ⟨0, by decide⟩ := Fin.ext (by show t.val = 0; omega)
    exact out_A m c _ h0
  · rw [out_B m c t h0, carried m c]

end Cert.KernelIdeal.Nv
-- ==== Proof.Entries.lean ====
/- The kernel's decoded operands at an entry, over the extended reals. -/
module

public import proofs.«01_k».proof.Proof.Tiles
public import proofs.«01_k».proof.Proof.Bits
public import Idealize.ShloMosaic.Lib.Pointwise
public import Idealize.ShloMosaic.Lib.ValueLayout

@[expose] public section

set_option maxRecDepth 16384

noncomputable section

namespace Cert.KernelIdeal.Nv

open Idealize.ShloMosaic Idealize.ShloMosaic.TcCoe Idealize.ShloMosaic.Tactic Cert.KernelIdeal.Gen Cert.KernelIdeal Cert.Nvfp4

/-- The lane a tile's scale is taken from, as a number. -/
theorem scaleIdx_toNat (j : Fin 24) (p : Fin 256) (l : Fin 128) :
    (scaleIdx (off j) (ix2 p l)).toNat = 16 * (j.val % 8) + l.val / 8 := by
  unfold scaleIdx
  pointwise
  revert l j
  decide +kernel

/-- A tile's scale at lane `l` of row `p`. -/
theorem scaleTile_apply (j : Fin 24) (s : FVec Ideal S256x128 .fp8e4m3) (p : Fin 256) (l : Fin 128) :
    scaleTile (off j) s (ix2 p l) = s (ix2 p (⟨16 * (j.val % 8) + l.val / 8, by omega⟩ : Fin 128)) := by
  unfold scaleTile
  pointwise
  refine congrArg (fun q => s (ix2 p q)) (Fin.ext ?_)
  show (scaleIdx (off j) (ix2 p l)).toNat % 128 = 16 * (j.val % 8) + l.val / 8
  rw [scaleIdx_toNat]
  omega

/-- A tile's low codes at an entry. -/
theorem loTile_apply (b : IVec S256x128 8) (sc : FVec Ideal S256x128 .bf16) (p : Fin 256) (l : Fin 128) :
    loTile b sc (ix2 p l) = Ideal.ofBits .fp8e4m3 (loByte (b (ix2 p l))) * sc (ix2 p l) := by
  have e := bytewise b bitcasts_S256x128_w8_S64x128_w32 bitcasts_S64x128_w32_S256x128_w8 loWord loByte loWord_byte rfl p l
  exact congrArg (fun v => Ideal.ofBits .fp8e4m3 v * sc (ix2 p l)) e

/-- A tile's high codes at an entry. -/
theorem hiTile_apply (b : IVec S256x128 8) (sc : FVec Ideal S256x128 .bf16) (p : Fin 256) (l : Fin 128) :
    hiTile b sc (ix2 p l) = Ideal.ofBits .fp8e4m3 (hiByte (b (ix2 p l))) * sc (ix2 p l) := by
  have e := bytewise b bitcasts_S256x128_w8_S64x128_w32 bitcasts_S64x128_w32_S256x128_w8 hiWord hiByte hiWord_byte rfl p l
  exact congrArg (fun v => Ideal.ofBits .fp8e4m3 v * sc (ix2 p l)) e

/-- The tile column `k` lies in. -/
abbrev tileOf (k : Fin 3072) : Fin 24 := ⟨k.val / 128, by omega⟩
/-- Column `k`'s place in its tile. -/
abbrev laneOf (k : Fin 3072) : Fin 128 := ⟨k.val % 128, by omega⟩
/-- The scale column `k` is scaled by. -/
abbrev scaleOf (k : Fin 3072) : Fin 384 := ⟨k.val / 8, by omega⟩

/-- 24 tiles side by side, at an entry. -/
theorem tiles_apply (f : Fin 24 → FVec Ideal S256x128 .bf16) (p : Fin 256) (k : Fin 3072) :
    tiles f (ix2 p k) = f (tileOf k) (ix2 p (laneOf k)) := by
  unfold tiles
  exact concatenate_ofFn_apply (t := S256x3072) (s₁ := S256x128) 1 f _ rfl 128 rfl (ix2 p k) (tileOf k) rfl (ix2 p (laneOf k)) rfl
    (fun b hb => by fin_cases b <;> first | rfl | exact absurd rfl hb)

/-- Tile codes at an entry: the block's byte at the column. -/
theorem wCodes_apply (g : Fin 2) (x : Vec Ideal S2x256x3072 .i8) (p : Fin 256) (k : Fin 3072) :
    wCodes g x (tileOf k) (ix2 p (laneOf k)) = x (ix3 g p k) :=
  (ValueIdx.shapeCast_1ab_ab_apply _ _ p (laneOf k)).trans (congrArg x (funext fun a => Fin.ext (by
    match a with
    | ⟨0, _⟩ => show g.val + 1 * 0 = g.val; omega
    | ⟨1, _⟩ => show 0 + 1 * p.val = p.val; omega
    | ⟨2, _⟩ => show 128 * (k.val / 128) + 1 * (k.val % 128) = k.val; omega)))

/-- Tile scales at an entry: the block's scale of the eight bytes the column lies in. -/
theorem wScales_apply (g : Fin 2) (x : Vec Ideal S2x256x384 .fp8e4m3) (p : Fin 256) (k : Fin 3072) :
    scaleTile (off (tileOf k)) (wScales g x (tileOf k)) (ix2 p (laneOf k)) = x (ix3 g p (scaleOf k)) :=
  (scaleTile_apply _ _ _ _).trans ((ValueIdx.shapeCast_1ab_ab_apply _ _ p _).trans (congrArg x (funext fun a => Fin.ext (by
    match a with
    | ⟨0, _⟩ => show g.val + 1 * 0 = g.val; omega
    | ⟨1, _⟩ => show 0 + 1 * p.val = p.val; omega
    | ⟨2, _⟩ => show 128 * (k.val / 128 / 8) + 1 * (16 * (k.val / 128 % 8) + k.val % 128 / 8) = k.val / 8; omega))))

/-- The activations' tile codes at an entry. -/
theorem xCodes_apply (x : Vec Ideal S256x3072 .i8) (p : Fin 256) (k : Fin 3072) :
    xCodes x (tileOf k) (ix2 p (laneOf k)) = x (ix2 p k) :=
  (congrFun (shapeCast_id _ _) _).trans (congrArg x (funext fun a => Fin.ext (by
    match a with
    | ⟨0, _⟩ => show 0 + 1 * p.val = p.val; omega
    | ⟨1, _⟩ => show 128 * (k.val / 128) + 1 * (k.val % 128) = k.val; omega)))

/-- The activations' tile scales at an entry. -/
theorem xScales_apply (x : Vec Ideal S256x384 .fp8e4m3) (p : Fin 256) (k : Fin 3072) :
    scaleTile (off (tileOf k)) (xScales x (tileOf k)) (ix2 p (laneOf k)) = x (ix2 p (scaleOf k)) :=
  (scaleTile_apply _ _ _ _).trans ((congrFun (shapeCast_id _ _) _).trans (congrArg x (funext fun a => Fin.ext (by
    match a with
    | ⟨0, _⟩ => show 0 + 1 * p.val = p.val; omega
    | ⟨1, _⟩ => show 128 * (k.val / 128 / 8) + 1 * (16 * (k.val / 128 % 8) + k.val % 128 / 8) = k.val / 8; omega))))

/-- Product `g`'s low operand at an entry: the code's value times its block's scale. -/
theorem wLo_apply (g : Fin 2) (x4 : Vec Ideal S2x256x3072 .i8) (x5 : Vec Ideal S2x256x384 .fp8e4m3) (p : Fin 256) (k : Fin 3072) :
    wLo g x4 x5 (ix2 p k) = Ideal.ofBits .fp8e4m3 (loByte (x4 (ix3 g p k))) * x5 (ix3 g p (scaleOf k)) := by
  unfold wLo
  rw [tiles_apply, loTile_apply, wCodes_apply, wScales_apply]

/-- Product `g`'s high operand at an entry. -/
theorem wHi_apply (g : Fin 2) (x4 : Vec Ideal S2x256x3072 .i8) (x5 : Vec Ideal S2x256x384 .fp8e4m3) (p : Fin 256) (k : Fin 3072) :
    wHi g x4 x5 (ix2 p k) = Ideal.ofBits .fp8e4m3 (hiByte (x4 (ix3 g p k))) * x5 (ix3 g p (scaleOf k)) := by
  unfold wHi
  rw [tiles_apply, hiTile_apply, wCodes_apply, wScales_apply]

/-- The factor the activations' scales carry. -/
theorem gain_apply (s : FVec Ideal S256x128 .bf16) (i : S256x128.Idx) : gain s i = s i * ((4096 : ℝ) : EReal) := by
  have e : (Scalar.ofBits .bf16 0x4580#16 : Ideal .bf16) = ((4096 : ℝ) : EReal) := by
    show Ideal.ofBits .bf16 0x4580#16 = _
    simp [Ideal.ofBits, Ideal.ieee] <;> norm_cast <;> norm_num
  exact congrArg (s i * ·) e

/-- The activations' low operand at an entry. -/
theorem xLo_apply (x2 : Vec Ideal S256x3072 .i8) (x3 : Vec Ideal S256x384 .fp8e4m3) (q : Fin 256) (k : Fin 3072) :
    xLo x2 x3 (ix2 k q) = Ideal.ofBits .fp8e4m3 (loByte (x2 (ix2 q k))) * (x3 (ix2 q (scaleOf k)) * ((4096 : ℝ) : EReal)) := by
  unfold xLo
  pointwise
  rw [tiles_apply, loTile_apply, gain_apply, xCodes_apply, xScales_apply]

/-- The activations' high operand at an entry. -/
theorem xHi_apply (x2 : Vec Ideal S256x3072 .i8) (x3 : Vec Ideal S256x384 .fp8e4m3) (q : Fin 256) (k : Fin 3072) :
    xHi x2 x3 (ix2 k q) = Ideal.ofBits .fp8e4m3 (hiByte (x2 (ix2 q k))) * (x3 (ix2 q (scaleOf k)) * ((4096 : ℝ) : EReal)) := by
  unfold xHi
  pointwise
  rw [tiles_apply, hiTile_apply, gain_apply, xCodes_apply, xScales_apply]

/-- A point's product at an entry. -/
theorem acc_apply (g : Fin 2) (x4 : Vec Ideal S2x256x3072 .i8) (x5 : Vec Ideal S2x256x384 .fp8e4m3) (s0 s1 : FVec Ideal S3072x256 .bf16)
    (p q : Fin 256) : acc g x4 x5 s0 s1 (ix2 p q)
      = (∑ k : Fin 3072, wLo g x4 x5 (ix2 p k) * s0 (ix2 k q)) + ∑ k : Fin 3072, wHi g x4 x5 (ix2 p k) * s1 (ix2 k q) := by
  unfold acc
  pointwise

end Cert.KernelIdeal.Nv
-- ==== Proof.KernelValue.lean ====
/- What a grid point leaves in its block of the result, at an entry. -/
module

public import proofs.«01_k».proof.Proof.Points
public import proofs.«01_k».proof.Proof.Entries
public import proofs.«01_k».proof.Proof.Spec

@[expose] public section

set_option maxRecDepth 16384

noncomputable section

namespace Cert.KernelIdeal.Nv

open Idealize.ShloMosaic Idealize.ShloMosaic.TcCoe Idealize.ShloMosaic.Tactic Cert.KernelIdeal.Gen Cert.KernelIdeal Cert.Nvfp4
open Idealize.ShloMosaic.Pipeline (Dat Cfg Window)

/-- A pair's scalar is its entry. -/
theorem pair_apply (x : Vec Ideal S2 .f32) (i : Fin 2) : pair x i = x (ix1 i) :=
  congrArg x (funext fun a => Fin.ext (by
    match a with
    | ⟨0, _⟩ => show i.val + 1 * 0 = i.val; omega))

/-- What is stored for 128 tokens, at an entry. -/
theorem half_apply (h u : FVec Ideal S256x128 .f32) (a b c d : Ideal .f32) (r : Fin 128) (p : Fin 256) :
    half h u a b c d (ix2 r p) = gated ((h (ix2 p r) * a) * b) ((u (ix2 p r) * c) * d) := by
  pointwise [half, gated]

/-- The block's entry for token `q` and column `p` of the block. -/
theorem block_apply (x0 x1 : Vec Ideal S2 .f32) (x4 : Vec Ideal S2x256x3072 .i8) (x5 : Vec Ideal S2x256x384 .fp8e4m3)
    (s0 s1 : FVec Ideal S3072x256 .bf16) (q p : Fin 256) : block x0 x1 x4 x5 s0 s1 (ix2 q p)
      = gated ((acc 0 x4 x5 s0 s1 (ix2 p q) * x0 (ix1 ⟨q.val / 128, by omega⟩)) * x1 (ix1 0))
        ((acc 1 x4 x5 s0 s1 (ix2 p q) * x0 (ix1 ⟨q.val / 128, by omega⟩)) * x1 (ix1 1)) := by
  unfold block
  by_cases hq : q.val < 128
  · rw [View.canon_cons_of_not_mem _ _ (by
      rw [Rect.mem_set_unit]
      intro h
      have h0 : 128 ≤ q.val := (h 0).1
      omega)]
    have e : (ix2 q p : S256x256.Idx) = (Rect.unit (s := S256x256) ![0, 0] S128x256.size inb_S256x256_S128x256_0_0).emb (ix2 (⟨q.val, hq⟩ : Fin 128) p) :=
      funext fun a => Fin.ext (by
        match a with
        | ⟨0, _⟩ => show q.val = 0 + 1 * q.val; omega
        | ⟨1, _⟩ => show p.val = 0 + 1 * p.val; omega)
    have ha : (⟨q.val / 128, by omega⟩ : Fin 2) = 0 := Fin.ext (by show q.val / 128 = 0; omega)
    rw [e, View.canon_cons_emb, half_apply, ha]
    simp only [pair_apply]
    pointwise
  · have e : (ix2 q p : S256x256.Idx) = (Rect.unit (s := S256x256) ![128, 0] S128x256.size inb_S256x256_S128x256_128_0).emb (ix2 (⟨q.val - 128, by omega⟩ : Fin 128) p) :=
      funext fun a => Fin.ext (by
        match a with
        | ⟨0, _⟩ => show q.val = 128 + 1 * (q.val - 128); omega
        | ⟨1, _⟩ => show p.val = 0 + 1 * p.val; omega)
    have ha : (⟨q.val / 128, by omega⟩ : Fin 2) = 1 := Fin.ext (by show q.val / 128 = 1; omega)
    have hq' : (⟨128 + (q.val - 128), by omega⟩ : Fin 256) = q := Fin.ext (by show 128 + (q.val - 128) = q.val; omega)
    rw [e, View.canon_cons_emb, half_apply, ha]
    simp only [pair_apply]
    pointwise
    simp only [hq']

/-- The factors 1/64 of the two decoded codes and the factor 4096 of the activations' scale cancel. -/
theorem factors (a b s t : EReal) :
    ((a * ((1 / 64 : ℝ) : EReal)) * s) * ((b * ((1 / 64 : ℝ) : EReal)) * (t * ((4096 : ℝ) : EReal))) = (b * t) * (a * s) := by
  have e : ((1 / 64 : ℝ) : EReal) * (((1 / 64 : ℝ) : EReal) * ((4096 : ℝ) : EReal)) = 1 := by
    rw [← EReal.coe_mul, ← EReal.coe_mul]
    norm_num
  calc _ = ((b * t) * (a * s)) * (((1 / 64 : ℝ) : EReal) * (((1 / 64 : ℝ) : EReal) * ((4096 : ℝ) : EReal))) := by ac_rfl
    _ = _ := by rw [e, mul_one]

/-- A point's product of decoded rows, over the packed codes and their scales. -/
theorem acc_decoded (g : Fin 2) (x2 : Vec Ideal S256x3072 .i8) (x3 : Vec Ideal S256x384 .fp8e4m3)
    (x4 : Vec Ideal S2x256x3072 .i8) (x5 : Vec Ideal S2x256x384 .fp8e4m3) (p q : Fin 256) :
    acc g x4 x5 (xLo x2 x3) (xHi x2 x3) (ix2 p q)
      = (∑ k : Fin 3072, (lo (x2 (ix2 q k)) * x3 (ix2 q (scaleOf k))) * (lo (x4 (ix3 g p k)) * x5 (ix3 g p (scaleOf k))))
        + ∑ k : Fin 3072, (hi (x2 (ix2 q k)) * x3 (ix2 q (scaleOf k))) * (hi (x4 (ix3 g p k)) * x5 (ix3 g p (scaleOf k))) := by
  rw [acc_apply]
  refine congrArg₂ (· + ·) (Finset.sum_congr rfl fun k _ => ?_) (Finset.sum_congr rfl fun k _ => ?_)
  · rw [wLo_apply, xLo_apply, dec_lo, dec_lo]
    exact factors _ _ _ _
  · rw [wHi_apply, xHi_apply, dec_hi, dec_hi]
    exact factors _ _ _ _

variable (m : (ℓ : Loc nD τ sig) → Buf (Elt Ideal) ℓ)

/-- Which block each window hands a point: the scalars and activations whole, the weights' rows and the result's columns by the point. -/
theorem idx : ∀ t : Fin cfg0.N, win0_0.index t = ![0] ∧ win0_1.index t = ![0] ∧ win0_2.index t = ![0, 0] ∧ win0_3.index t = ![0, 0]
    ∧ win0_4.index t = ![0, t.val, 0] ∧ win0_5.index t = ![0, t.val, 0] ∧ win0_6.index t = ![0, t.val] :=
  (by decide +kernel : ∀ t : Fin grid0.N, _)

end Cert.KernelIdeal.Nv
-- ==== Proof.KernelFinal.lean ====
/- What the kernel's result array holds after the run, at an entry, over the arguments. -/
module

public import proofs.«01_k».proof.Proof.KernelValue
public import Idealize.ShloMosaic.Lib.Claim

@[expose] public section

set_option maxRecDepth 16384

noncomputable section

namespace Cert.KernelIdeal.Nv

open Idealize.ShloMosaic Idealize.ShloMosaic.TcCoe Idealize.ShloMosaic.Tactic Cert.KernelIdeal.Gen Cert.KernelIdeal Cert.Nvfp4
open Idealize.ShloMosaic.Pipeline (Dat Cfg Window)

variable (m : (ℓ : Loc nD τ sig) → Buf (Elt Ideal) ℓ)

/-- A point's token scalars are the argument's. -/
theorem blk0 (c : Dev nD) (t : Fin cfg0.N) (i : Fin 2) : iblk m c 0 t (ix1 i) = m ((c : Thread nD τ).loc main_arg2) (ix1 i) := by
  blk_ext [iblk, V, idx t]

/-- A point's matrix scalars are the argument's. -/
theorem blk1 (c : Dev nD) (t : Fin cfg0.N) (i : Fin 2) : iblk m c 1 t (ix1 i) = m ((c : Thread nD τ).loc main_arg5) (ix1 i) := by
  blk_ext [iblk, V, idx t]

/-- A point's activation codes are the argument's. -/
theorem blk2 (c : Dev nD) (t : Fin cfg0.N) (q : Fin 256) (k : Fin 3072) :
    iblk m c 2 t (ix2 q k) = m ((c : Thread nD τ).loc main_arg0) (ix3 0 q k) := by
  blk_ext! [iblk, V, idx t]

/-- A point's activation scales are the argument's. -/
theorem blk3 (c : Dev nD) (t : Fin cfg0.N) (q : Fin 256) (k : Fin 384) :
    iblk m c 3 t (ix2 q k) = m ((c : Thread nD τ).loc main_arg1) (ix3 0 q k) := by
  blk_ext! [iblk, V, idx t]

/-- Point `t`'s weight codes are rows `256 t` to `256 t + 255` of both matrices. -/
theorem blk4 (c : Dev nD) (t : Fin cfg0.N) (g : Fin 2) (p : Fin 256) (k : Fin 3072) (n : Fin 16384) (hn : n.val = 256 * t.val + p.val) :
    iblk m c 4 t (ix3 g p k) = m ((c : Thread nD τ).loc main_arg3) (ix3 g n k) := by
  blk_ext [iblk, V, idx t]

/-- Point `t`'s weight scales are rows `256 t` to `256 t + 255` of both matrices. -/
theorem blk5 (c : Dev nD) (t : Fin cfg0.N) (g : Fin 2) (p : Fin 256) (k : Fin 384) (n : Fin 16384) (hn : n.val = 256 * t.val + p.val) :
    iblk m c 5 t (ix3 g p k) = m ((c : Thread nD τ).loc main_arg4) (ix3 g n k) := by
  blk_ext [iblk, V, idx t]

/-- What point `t` leaves at token `q` and column `p` of its block: the result at token `q`, column `256 t + p`. -/
theorem point_apply (c : Dev nD) (t : Fin cfg0.N) (q p : Fin 256) (n : Fin 16384) (hn : n.val = 256 * t.val + p.val) :
    (outsAt0 m c t.val t.isLt).1 (ix2 q p)
      = resultAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) q n := by
  rw [out_eq m c t, block_apply]
  simp only [acc_decoded, blk0, blk1, blk2, blk3, blk4 m c t _ p _ n hn, blk5 m c t _ p _ n hn]
  rfl

/-- The result array after the run. -/
theorem final (c : Dev nD) : (dats m 0 c).arrAt 6 cfg0.N = fun i : S256x16384.Idx =>
    resultAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  rw [after0_6]
  have e0 : (((cfg0.win 6).blk t).view.emb y 0).val = (y 0).val := by
    blk_simp [idx t]
  have e1 : (((cfg0.win 6).blk t).view.emb y 1).val = 256 * t.val + (y 1).val := by
    blk_simp [idx t]
    omega
  have hy : y = ix2 (y 0) (y 1) := eq_ix2 y
  have hq : (((cfg0.win 6).blk t).view.emb y 0 : Fin 256) = y 0 := Fin.ext e0
  refine Eq.trans ?_ ((point_apply m c t (y 0) (y 1) (((cfg0.win 6).blk t).view.emb y 1) e1).trans ?_)
  · exact congrArg (outsAt0 m c t.val t.isLt).1 hy
  · exact congrArg (fun q => resultAt _ _ _ _ _ _ q _) hq.symm

end Cert.KernelIdeal.Nv
-- ==== Proof.lean ====
module

public import proofs.«01_k».proof.Proof.Gen.ReferenceIdeal.Value
public import proofs.«01_k».proof.Proof.Gen.KernelIdeal.Value
public import proofs.«01_k».proof.Proof.RefValue
public import proofs.«01_k».proof.Proof.KernelFinal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Over the extended reals the kernel and the reference leave the same result: both arrays hold `resultAt` of the arguments at every
    token and column. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fun i : Cert.KernelIdeal.S256x16384.Idx =>
    Cert.Nvfp4.resultAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (i 0) (i 1), ?_, ?_⟩
  · exact (θ_run Cert.KernelIdeal.defs _ _).mono
      (fun r h c => ⟨(h c).1.trans (Cert.KernelIdeal.Nv.final m c), (h c).2⟩) (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5⟩ := hagree c
    rw [e0, e1, e2, e3, e4, e5]
    funext i
    exact (congrArg _ (eq_ix2 i)).trans (Cert.ReferenceIdeal.Nv.G6_apply _ _ _ _ _ _ (i 0) (i 1))

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
